-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x256 : Shape := ⟨2, ![256, 256]⟩
abbrev S256x128 : Shape := ⟨2, ![256, 128]⟩
abbrev S128x1 : Shape := ⟨2, ![128, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : IVec S16384 32) (main_arg1 : FVec F S16384x3 .f32) (main_arg2 : IVec S16384 32) (main_arg3 : FVec F S100x256 .f32) (main_arg4 : FVec F S3x256 .f32) (main_arg5 : FVec F S256x256 .f32) (main_arg6 : FVec F S256x256 .f32) (main_arg7 : FVec F S256x128 .f32) (main_arg8 : FVec F S128x1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384x3 .f32 := Host.absf main_arg1
  let main_cst : FVec F S_ .f32 := constant S_ .f32 0x7F800000#32
  let main_v7 : FVec F S16384x3 .f32 := broadcastInDim S16384x3 ![] bcast_S_S16384x3 main_cst
  let main_v8 : IVec S16384x3 1 := cmpf .olt main_v6 main_v7
  let main_c_2 : IVec S_ 1 := constantI S_ 1 1#1
  let main_v9 : IVec S_ 1 := (fun x v => Host.reduce IntOp.andi x v reducesTo_S16384x3_S_d0_1 h_S_) main_v8 main_c_2
  let main_v10 : IVec S_ 1 := andi main_v5 main_v9
  main_v10
-- ==== Kernel.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x256 : Shape := ⟨2, ![256, 256]⟩
abbrev S256x128 : Shape := ⟨2, ![256, 128]⟩
abbrev S128x1 : Shape := ⟨2, ![128, 1]⟩
abbrev S16384x1 : Shape := ⟨2, ![16384, 1]⟩
abbrev S_ : Shape := ⟨0, ![]⟩
abbrev S16384x8 : Shape := ⟨2, ![16384, 8]⟩
abbrev S16x1x1024 : Shape := ⟨3, ![16, 1, 1024]⟩
abbrev S128x256 : Shape := ⟨2, ![128, 256]⟩
abbrev S8x256 : Shape := ⟨2, ![8, 256]⟩
abbrev S256x1 : Shape := ⟨2, ![256, 1]⟩
abbrev S1024x1 : Shape := ⟨2, ![1024, 1]⟩
abbrev S1024x8 : Shape := ⟨2, ![1024, 8]⟩
abbrev S1x1x1024 : Shape := ⟨3, ![1, 1, 1024]⟩
abbrev S1024x128 : Shape := ⟨2, ![1024, 128]⟩
abbrev S1024x256 : Shape := ⟨2, ![1024, 256]⟩
abbrev S1024 : Shape := ⟨1, ![1024]⟩
abbrev S1x1024 : Shape := ⟨2, ![1, 1024]⟩
abbrev S256x1024 : Shape := ⟨2, ![256, 1024]⟩

abbrev nBuf : Space → Nat
  | .hbm => 21
  | .vmem => 14
  | .smem => 0
  | _ => 0

abbrev bufTy : (tb : Table) → Fin (tcTables nBuf tb) → BufTy
  | .hbm, ⟨0, _⟩ => ⟨S16384, .i32⟩
  | .hbm, ⟨1, _⟩ => ⟨S16384x3, .f32⟩
  | .hbm, ⟨2, _⟩ => ⟨S16384, .i32⟩
  | .hbm, ⟨3, _⟩ => ⟨S100x256, .f32⟩
  | .hbm, ⟨4, _⟩ => ⟨S3x256, .f32⟩
  | .hbm, ⟨5, _⟩ => ⟨S256x256, .f32⟩
  | .hbm, ⟨6, _⟩ => ⟨S256x256, .f32⟩
  | .hbm, ⟨7, _⟩ => ⟨S256x128, .f32⟩
  | .hbm, ⟨8, _⟩ => ⟨S128x1, .f32⟩
  | .hbm, ⟨9, _⟩ => ⟨S16384x1, .i32⟩
  | .hbm, ⟨10, _⟩ => ⟨S_, .i32⟩
  | .hbm, ⟨11, _⟩ => ⟨S_, .f32⟩
  | .hbm, ⟨12, _⟩ => ⟨S16384x8, .f32⟩
  | .hbm, ⟨13, _⟩ => ⟨S16x1x1024, .i32⟩
  | .hbm, ⟨14, _⟩ => ⟨S_, .i32⟩
  | .hbm, ⟨15, _⟩ => ⟨S_, .f32⟩
  | .hbm, ⟨16, _⟩ => ⟨S128x256, .f32⟩
  | .hbm, ⟨17, _⟩ => ⟨S_, .i32⟩
  | .hbm, ⟨18, _⟩ => ⟨S_, .f32⟩
  | .hbm, ⟨19, _⟩ => ⟨S8x256, .f32⟩
  | .hbm, ⟨20, _⟩ => ⟨S256x1, .f32⟩
  | .local _ .vmem, ⟨0, _⟩ => ⟨S1024x1, .i32⟩
  | .local _ .vmem, ⟨1, _⟩ => ⟨S1024x1, .i32⟩
  | .local _ .vmem, ⟨2, _⟩ => ⟨S1024x8, .f32⟩
  | .local _ .vmem, ⟨3, _⟩ => ⟨S1024x8, .f32⟩
  | .local _ .vmem, ⟨4, _⟩ => ⟨S1x1x1024, .i32⟩
  | .local _ .vmem, ⟨5, _⟩ => ⟨S1x1x1024, .i32⟩
  | .local _ .vmem, ⟨6, _⟩ => ⟨S128x256, .f32⟩
  | .local _ .vmem, ⟨7, _⟩ => ⟨S8x256, .f32⟩
  | .local _ .vmem, ⟨8, _⟩ => ⟨S256x256, .f32⟩
  | .local _ .vmem, ⟨9, _⟩ => ⟨S256x128, .f32⟩
  | .local _ .vmem, ⟨10, _⟩ => ⟨S128x1, .f32⟩
  | .local _ .vmem, ⟨11, _⟩ => ⟨S256x256, .f32⟩
  | .local _ .vmem, ⟨12, _⟩ => ⟨S256x1, .f32⟩
  | .local _ .vmem, ⟨13, _⟩ => ⟨S128x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x256 : Shape := ⟨2, ![256, 256]⟩
abbrev S256x128 : Shape := ⟨2, ![256, 128]⟩
abbrev S128x1 : Shape := ⟨2, ![128, 1]⟩
abbrev S_ : Shape := ⟨0, ![]⟩
abbrev S16384x1 : Shape := ⟨2, ![16384, 1]⟩
abbrev S16384x256 : Shape := ⟨2, ![16384, 256]⟩
abbrev S16384x3x1 : Shape := ⟨3, ![16384, 3, 1]⟩
abbrev S16384x1x256 : Shape := ⟨3, ![16384, 1, 256]⟩
abbrev S16384x3x256 : Shape := ⟨3, ![16384, 3, 256]⟩
abbrev S16384x128 : Shape := ⟨2, ![16384, 128]⟩
abbrev S256x1 : Shape := ⟨2, ![256, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x3, .f32⟩
  | .hbm, ⟨2, _⟩ => ⟨S16384, .i32⟩
  | .hbm, ⟨3, _⟩ => ⟨S100x256, .f32⟩
  | .hbm, ⟨4, _⟩ => ⟨S3x256, .f32⟩
  | .hbm, ⟨5, _⟩ => ⟨S256x256, .f32⟩
  | .hbm, ⟨6, _⟩ => ⟨S256x256, .f32⟩
  | .hbm, ⟨7, _⟩ => ⟨S256x128, .f32⟩
  | .hbm, ⟨8, _⟩ => ⟨S128x1, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x3x1, .f32⟩
  | .hbm, ⟨31, _⟩ => ⟨S16384x1x256, .f32⟩
  | .hbm, ⟨32, _⟩ => ⟨S16384x3x256, .f32⟩
  | .hbm, ⟨33, _⟩ => ⟨S16384x3x256, .f32⟩
  | .hbm, ⟨34, _⟩ => ⟨S16384x3x256, .f32⟩
  | .hbm, ⟨35, _⟩ => ⟨S16384x3x256, .f32⟩
  | .hbm, ⟨36, _⟩ => ⟨S16384x3x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S256x1, .f32⟩
  | .hbm, ⟨56, _⟩ => ⟨S16384x1, .i32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩

abbrev nD : Nat := 1
abbrev τ : Topo := Topo.v7x

variable {F : FTy → Type} [FloatOps F]
-- ==== Proof.Model.lean ====
/- The quantity both programs compute, written over plain functions of coordinates: the energy of one atom, and the sum of
   the energies of a graph's atoms. -/
module

public import Idealize.ShloMosaic.Lib.Pointwise

@[expose] public section

noncomputable section

namespace Cert.Model

open Idealize.ShloMosaic
open scoped BigOperators

/-- A value times its logistic. -/
def silu (v : EReal) : EReal := v * Ideal.logistic v

/-- The hidden features of one atom, from its embedding row `e` and its position `p`. -/
def hidden (e : Fin 256 → EReal) (p : Fin 3 → EReal) (W1 : Fin 256 → Fin 256 → EReal) (Wp : Fin 3 → Fin 256 → EReal)
    (h : Fin 256) : EReal :=
  silu ((∑ k, e k * W1 k h) + ∑ d, p d * Wp d h)

/-- The energy of one atom from its hidden features `u` and its squared distance `q` from the origin. -/
def energy (u : Fin 256 → EReal) (q : EReal) (Wv : Fin 256 → Fin 256 → EReal) (Wo1 : Fin 256 → Fin 128 → EReal)
    (Wo2 : Fin 128 → EReal) : EReal :=
  ∑ k : Fin 128, silu (∑ h, (u h + q * ((∑ i, u i * Wv i h) * ∑ i, u i * Wv i h)) * Wo1 h k) * Wo2 k

/-- The energy of one atom from its embedding row and its position. -/
def atom (e : Fin 256 → EReal) (p : Fin 3 → EReal) (W1 : Fin 256 → Fin 256 → EReal) (Wp : Fin 3 → Fin 256 → EReal)
    (Wv : Fin 256 → Fin 256 → EReal) (Wo1 : Fin 256 → Fin 128 → EReal) (Wo2 : Fin 128 → EReal) : EReal :=
  energy (hidden e p W1 Wp) (∑ d, p d * p d) Wv Wo1 Wo2

/-- The sum of `f` over the atoms whose graph number is `g`. -/
def total (b : Fin 16384 → BitVec 32) (f : Fin 16384 → EReal) (g : Fin 256) : EReal :=
  ∑ n, (if b n = BitVec.ofNat 32 g.val then (1 : EReal) else 0) * f n

/-- A comparison for equality, widened to a word and converted to a float, is one or zero. -/
theorem sitofp_eq (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · simp [h, IntOp.cmpi]
  · have hb : (a == b) = false := by simpa using h
    simp [h, hb, IntOp.cmpi]

/-- The zero word converted to a float is zero. -/
theorem sitofp_zero_word : (FloatOps.sitofp (F := Ideal) .f32 0#32 : EReal) = 0 := by
  show (((0#32 : BitVec 32).toInt : ℝ) : EReal) = 0
  simp

end Cert.Model
-- ==== Proof.Blocks.lean ====
/- What the kernel's operand blocks hold, in terms of the function's arguments. The operands computed before the kernel
   starts are reshapes and zero paddings of arguments; a block of an operand is a run of its rows. -/
module

public import proofs.«01_k».proof.Proof.Gen.KernelIdeal.Value
public import Idealize.ShloMosaic.Lib.Pointwise
public import Idealize.ShloMosaic.Lib.Pipeline.ValueKit
public import Idealize.ShloMosaic.Lib.Claim
public import proofs.«01_k».proof.Proof.Model

@[expose] public section

set_option maxRecDepth 16384

noncomputable section

namespace Cert.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-- The atomic numbers. -/
abbrev aZ : Vec Ideal S16384 .i32 := m ((c : Thread nD τ).loc main_arg0)
/-- The positions. -/
abbrev aPos : Vec Ideal S16384x3 .f32 := m ((c : Thread nD τ).loc main_arg1)
/-- The graph number of each atom. -/
abbrev aBatch : Vec Ideal S16384 .i32 := m ((c : Thread nD τ).loc main_arg2)
/-- The embedding table. -/
abbrev aEmb : Vec Ideal S100x256 .f32 := m ((c : Thread nD τ).loc main_arg3)
/-- The position weights. -/
abbrev aWp : Vec Ideal S3x256 .f32 := m ((c : Thread nD τ).loc main_arg4)
/-- The first layer's weights. -/
abbrev aW1 : Vec Ideal S256x256 .f32 := m ((c : Thread nD τ).loc main_arg5)
/-- The vector channel's weights. -/
abbrev aWv : Vec Ideal S256x256 .f32 := m ((c : Thread nD τ).loc main_arg6)
/-- The first output layer's weights. -/
abbrev aWo1 : Vec Ideal S256x128 .f32 := m ((c : Thread nD τ).loc main_arg7)
/-- The second output layer's weights. -/
abbrev aWo2 : Vec Ideal S128x1 .f32 := m ((c : Thread nD τ).loc main_arg8)

/-- The block index of each operand at each grid point: the per-atom operands advance, the weights stay. -/
theorem block_index : ∀ t : Fin cfg0.N, win0_0.index t = ![t.val, 0] ∧ win0_1.index t = ![t.val, 0]
    ∧ win0_2.index t = ![t.val, 0, 0] ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- An atom's number from its grid point and its row in the block. -/
theorem atom_lt (t : Fin cfg0.N) (r : Fin 1024) : t.val * 1024 + r.val < 16384 := by
  have h := lt_of_lt_of_eq t.isLt (show cfg0.N = 16 from N_0)
  omega

/-- The column of atomic numbers holds the atomic numbers. -/
theorem entry_z (j : S16384x1.Idx) : (V m c main_v0 : Vec Ideal S16384x1 .i32) j = aZ m c (ix1 (j 0)) := by
  simp only [V, hostOps0, hostOps0_1, hostOps0_2, hostOps0_3, hostOps0_4, hostOps0_5, List.flatten_cons,
    List.flatten_nil, List.cons_append, List.nil_append, List.append_nil]
  entry_read
  pointwise

/-- The padded positions: three columns of coordinates, then zeros. -/
theorem entry_pos (n : Fin 16384) (d : Fin 8) : (V m c main_v1 : Vec Ideal S16384x8 .f32) (ix2 n d)
    = if hd : d.val < 3 then (aPos m c (ix2 n ⟨d.val, hd⟩) : EReal) else 0 := by
  simp only [V, hostOps0, hostOps0_1, hostOps0_2, hostOps0_3, hostOps0_4, hostOps0_5, List.flatten_cons,
    List.flatten_nil, List.cons_append, List.nil_append, List.append_nil]
  entry_read
  show (pad S16384x8 ![0, 0] ![0, 5] ![0, 0] (aPos m c) (sitofp (F := Ideal) .f32 (constantI S_ 32 0#32))
    pads_S16384x3_S16384x8_000_050 h_S_ : Vec Ideal S16384x8 .f32) (ix2 n d) = _
  pointwise
  rw [Model.sitofp_zero_word]

/-- The graph numbers laid out one grid point to a row hold the graph numbers in order. -/
theorem entry_batch (t : Fin 16) (r : Fin 1024) : (V m c main_v2 : Vec Ideal S16x1x1024 .i32) (ix3 t 0 r)
    = aBatch m c (ix1 ⟨t.val * 1024 + r.val, by omega⟩) := by
  simp only [V, hostOps0, hostOps0_1, hostOps0_2, hostOps0_3, hostOps0_4, hostOps0_5, List.flatten_cons,
    List.flatten_nil, List.cons_append, List.nil_append, List.append_nil]
  entry_read
  pointwise

/-- The padded embedding table: the hundred rows, then zeros. -/
theorem entry_emb (i : Fin 128) (k : Fin 256) : (V m c main_v3 : Vec Ideal S128x256 .f32) (ix2 i k)
    = if hi : i.val < 100 then (aEmb m c (ix2 ⟨i.val, hi⟩ k) : EReal) else 0 := by
  simp only [V, hostOps0, hostOps0_1, hostOps0_2, hostOps0_3, hostOps0_4, hostOps0_5, List.flatten_cons,
    List.flatten_nil, List.cons_append, List.nil_append, List.append_nil]
  entry_read
  show (pad S128x256 ![0, 0] ![28, 0] ![0, 0] (aEmb m c) (sitofp (F := Ideal) .f32 (constantI S_ 32 0#32))
    pads_S100x256_S128x256_0280_000 h_S_ : Vec Ideal S128x256 .f32) (ix2 i k) = _
  pointwise
  rw [Model.sitofp_zero_word]

/-- The padded position weights: the three rows, then zeros. -/
theorem entry_wp (d : Fin 8) (h : Fin 256) : (V m c main_v4 : Vec Ideal S8x256 .f32) (ix2 d h)
    = if hd : d.val < 3 then (aWp m c (ix2 ⟨d.val, hd⟩ h) : EReal) else 0 := by
  simp only [V, hostOps0, hostOps0_1, hostOps0_2, hostOps0_3, hostOps0_4, hostOps0_5, List.flatten_cons,
    List.flatten_nil, List.cons_append, List.nil_append, List.append_nil]
  entry_read
  show (pad S8x256 ![0, 0] ![5, 0] ![0, 0] (aWp m c) (sitofp (F := Ideal) .f32 (constantI S_ 32 0#32))
    pads_S3x256_S8x256_050_000 h_S_ : Vec Ideal S8x256 .f32) (ix2 d h) = _
  pointwise
  rw [Model.sitofp_zero_word]

/-- A block of atomic numbers. -/
theorem block_z (t : Fin cfg0.N) (r : Fin 1024) : (iblk m c 0 t : Vec Ideal S1024x1 .i32) (ix2 r 0)
    = aZ m c (ix1 ⟨t.val * 1024 + r.val, atom_lt t r⟩) := by
  unfold iblk
  rw [View.read_apply]
  show V m c main_v0 _ = _
  rw [entry_z]
  blk_ext [block_index t]

/-- A block of padded positions. -/
theorem block_pos (t : Fin cfg0.N) (r : Fin 1024) (d : Fin 8) : (iblk m c 1 t : Vec Ideal S1024x8 .f32) (ix2 r d)
    = if hd : d.val < 3 then (aPos m c (ix2 ⟨t.val * 1024 + r.val, atom_lt t r⟩ ⟨d.val, hd⟩) : EReal) else 0 := by
  rw [← entry_pos]
  unfold iblk
  rw [View.read_apply]
  show V m c main_v1 _ = _
  blk_ext [block_index t]

/-- A block of graph numbers. -/
theorem block_batch (t : Fin cfg0.N) (r : Fin 1024) : (iblk m c 2 t : Vec Ideal S1x1x1024 .i32) (ix3 0 0 r)
    = aBatch m c (ix1 ⟨t.val * 1024 + r.val, atom_lt t r⟩) := by
  have h := lt_of_lt_of_eq t.isLt (show cfg0.N = 16 from N_0)
  rw [← entry_batch m c ⟨t.val, h⟩ r]
  unfold iblk
  rw [View.read_apply]
  show V m c main_v2 _ = _
  blk_ext [block_index t]

/-- The padded embedding table, whole. -/
theorem block_emb (t : Fin cfg0.N) (i : Fin 128) (k : Fin 256) : (iblk m c 3 t : Vec Ideal S128x256 .f32) (ix2 i k)
    = if hi : i.val < 100 then (aEmb m c (ix2 ⟨i.val, hi⟩ k) : EReal) else 0 := by
  rw [← entry_emb]
  unfold iblk
  rw [View.read_apply]
  show V m c main_v3 _ = _
  blk_ext [block_index t]

/-- The padded position weights, whole. -/
theorem block_wp (t : Fin cfg0.N) (d : Fin 8) (h : Fin 256) : (iblk m c 4 t : Vec Ideal S8x256 .f32) (ix2 d h)
    = if hd : d.val < 3 then (aWp m c (ix2 ⟨d.val, hd⟩ h) : EReal) else 0 := by
  rw [← entry_wp]
  unfold iblk
  rw [View.read_apply]
  show V m c main_v4 _ = _
  blk_ext [block_index t]

/-- The vector channel's weights, whole. -/
theorem block_wv (t : Fin cfg0.N) (y : S256x256.Idx) : (iblk m c 5 t : Vec Ideal S256x256 .f32) y = aWv m c y := by
  blk_ext [iblk, V, block_index t]

/-- The first output layer's weights, whole. -/
theorem block_wo1 (t : Fin cfg0.N) (y : S256x128.Idx) : (iblk m c 6 t : Vec Ideal S256x128 .f32) y = aWo1 m c y := by
  blk_ext [iblk, V, block_index t]

/-- The second output layer's weights, whole. -/
theorem block_wo2 (t : Fin cfg0.N) (y : S128x1.Idx) : (iblk m c 7 t : Vec Ideal S128x1 .f32) y = aWo2 m c y := by
  blk_ext [iblk, V, block_index t]

/-- The first layer's weights, whole. -/
theorem block_w1 (t : Fin cfg0.N) (y : S256x256.Idx) : (iblk m c 8 t : Vec Ideal S256x256 .f32) y = aW1 m c y := by
  blk_ext [iblk, V, block_index t]

end Cert.Blocks
-- ==== Proof.Sums.lean ====
/- Laws of finite sums of extended reals that the comparison of the two programs rests on. Addition of extended reals is
   commutative and associative, and `⊤ + ⊥ = ⊥`; multiplication does not distribute over every sum, so each law says
   which factor must be real, or which terms nonnegative. -/
module

public import Mathlib.Data.EReal.Inv
public import Mathlib.Algebra.Order.BigOperators.Group.Finset
public import Mathlib.Algebra.BigOperators.Fin

@[expose] public section

namespace Cert.Sums

open scoped BigOperators

variable {ι : Type*}

/-- A nonnegative real factor moves into a finite sum. -/
theorem mul_sum_of_nonneg (s : Finset ι) (c : EReal) (h0 : 0 ≤ c) (ht : c ≠ ⊤) (a : ι → EReal) :
    ∑ i ∈ s, c * a i = c * ∑ i ∈ s, a i := by
  classical
  induction s using Finset.induction_on with
  | empty => simp
  | insert i s hi ih =>
    rw [Finset.sum_insert hi, Finset.sum_insert hi, ih, EReal.left_distrib_of_nonneg_of_ne_top h0 ht]

/-- The sum of the negated terms is the negated sum, or both sums are `⊥`: the second where the terms hold both `⊤` and
    `⊥`. -/
theorem sum_neg_or (s : Finset ι) (a : ι → EReal) :
    ∑ i ∈ s, -a i = -∑ i ∈ s, a i ∨ (∑ i ∈ s, -a i = ⊥ ∧ ∑ i ∈ s, a i = ⊥) := by
  classical
  induction s using Finset.induction_on with
  | empty => left; simp
  | insert i s hi ih =>
    rw [Finset.sum_insert hi, Finset.sum_insert hi]
    rcases ih with h | ⟨h1, h2⟩
    · rw [h]
      by_cases c1 : a i = ⊥ ∧ ∑ j ∈ s, a j = ⊤
      · right; rw [c1.1, c1.2]; simp
      · by_cases c2 : a i = ⊤ ∧ ∑ j ∈ s, a j = ⊥
        · right; rw [c2.1, c2.2]; simp
        · left
          rw [EReal.neg_add (by tauto) (by tauto)]
          rfl
    · right; rw [h1, h2]; simp

/-- The square of a finite sum does not see the sign of its terms. -/
theorem sum_neg_sq (s : Finset ι) (a : ι → EReal) :
    (∑ i ∈ s, -a i) * (∑ i ∈ s, -a i) = (∑ i ∈ s, a i) * ∑ i ∈ s, a i := by
  rcases sum_neg_or s a with h | ⟨h1, h2⟩
  · rw [h, neg_mul_neg]
  · rw [h1, h2]

/-- The square of a finite sum whose terms share a real factor `c`, of either sign, is `c * c` times the square of the
    sum without it. -/
theorem sum_mul_sq (s : Finset ι) (c : EReal) (hb : c ≠ ⊥) (ht : c ≠ ⊤) (a : ι → EReal) :
    (∑ i ∈ s, c * a i) * (∑ i ∈ s, c * a i) = c * c * ((∑ i ∈ s, a i) * ∑ i ∈ s, a i) := by
  rcases le_total 0 c with h0 | h0
  · rw [mul_sum_of_nonneg s c h0 ht, mul_mul_mul_comm]
  · have hn : ∀ i, c * a i = -(-c * a i) := fun i => by rw [neg_mul, neg_neg]
    rw [Finset.sum_congr rfl fun i _ => hn i, sum_neg_sq,
      mul_sum_of_nonneg s (-c) (EReal.neg_nonneg.2 h0) (fun h => hb (by rw [← neg_neg c, h, EReal.neg_top])),
      mul_mul_mul_comm, neg_mul_neg]

/-- A common factor moves out of a finite sum whose other factors are nonnegative. -/
theorem sum_mul_of_nonneg (s : Finset ι) (w : ι → EReal) (hw : ∀ i, 0 ≤ w i) (q : EReal) :
    ∑ i ∈ s, w i * q = (∑ i ∈ s, w i) * q := by
  classical
  induction s using Finset.induction_on with
  | empty => simp
  | insert i s hi ih =>
    rw [Finset.sum_insert hi, Finset.sum_insert hi, ih,
      EReal.right_distrib_of_nonneg (hw i) (Finset.sum_nonneg fun j _ => hw j)]

/-- A square is nonnegative. -/
theorem mul_self_nonneg' (c : EReal) : 0 ≤ c * c := by
  rcases le_total 0 c with h | h
  · exact mul_nonneg h h
  · rw [← neg_mul_neg]
    exact mul_nonneg (EReal.neg_nonneg.2 h) (EReal.neg_nonneg.2 h)

/-- THE NORM OVER THE COORDINATES. For real coordinates `p c`: the sum over `c` of the squares of `∑ i, p c * u i * w i`
    is the sum of the squares of the coordinates times the square of `∑ i, u i * w i`. -/
theorem norm_sq {κ : Type*} [Fintype κ] [Fintype ι] (p : κ → EReal) (hb : ∀ c, p c ≠ ⊥) (ht : ∀ c, p c ≠ ⊤)
    (u w : ι → EReal) :
    ∑ c, (∑ i, p c * u i * w i) * (∑ i, p c * u i * w i)
      = (∑ c, p c * p c) * ((∑ i, u i * w i) * ∑ i, u i * w i) := by
  rw [← sum_mul_of_nonneg Finset.univ _ (fun c => mul_self_nonneg' (p c))]
  refine Finset.sum_congr rfl fun c _ => ?_
  simp only [mul_assoc (p c)]
  rw [sum_mul_sq Finset.univ (p c) (hb c) (ht c)]
  simp only [mul_assoc]

/-- A sum weighted by the indicator of one index is the term at that index. -/
theorem sum_indicator [Fintype ι] (P : ι → Prop) [DecidablePred P] (i : ι) (h : ∀ j, P j ↔ j = i) (f : ι → EReal) :
    ∑ j, (if P j then 1 else 0) * f j = f i := by
  classical
  rw [Finset.sum_eq_single i]
  · rw [if_pos ((h i).2 rfl), one_mul]
  · intro j _ hj
    rw [if_neg (fun hp => hj ((h j).1 hp)), zero_mul]
  · intro hi
    exact absurd (Finset.mem_univ i) hi

end Cert.Sums
-- ==== Proof.KernelValue.lean ====
/- What the kernel returns: for each graph, the sum over the graph's atoms of the atom's energy. -/
module

public import proofs.«01_k».proof.Proof.Blocks
public import proofs.«01_k».proof.Proof.Sums
public import Idealize.ShloMosaic.Lib.Pipeline.ReadBack
public import Idealize.ShloMosaic.Lib.Pipeline.ValueKit.Held

@[expose] public section

set_option maxRecDepth 16384

noncomputable section

namespace Cert.KernelValue

open Cert.KernelIdeal Cert.KernelIdeal.Gen Cert.Blocks Idealize.ShloMosaic Idealize.ShloMosaic.TcCoe Idealize.SL.Sem
open scoped BigOperators

variable (m : (ℓ : Loc nD τ sig) → Buf (Elt Ideal) ℓ) (c : Dev nD)

/-- Eight terms whose last five are zero sum to the first three. -/
theorem sum_eight (f : Fin 8 → EReal) (h : ∀ d : Fin 8, ¬d.val < 3 → f d = 0) :
    ∑ d, f d = ∑ d : Fin 3, f ⟨d.val, by omega⟩ := by
  rw [Fin.sum_univ_eight, Fin.sum_univ_three, h 3 (by decide), h 4 (by decide), h 5 (by decide), h 6 (by decide),
    h 7 (by decide)]
  simp only [add_zero]
  rfl

/-- A word is the word of a small number exactly where the number is its unsigned value. -/
theorem word_eq_iff (z : BitVec 32) (j : Fin 128) : z = BitVec.ofNat 32 j.val ↔ z.toNat = j.val := by
  have hj := j.isLt
  rw [← BitVec.toNat_inj, BitVec.toNat_ofNat, Nat.mod_eq_of_lt (by omega)]

/-- The product of the padded embedding table and the first layer's weights. -/
def table (x : Fin 128) (h : Fin 256) : EReal :=
  ∑ k : Fin 256, (if hi : x.val < 100 then (aEmb m c (ix2 ⟨x.val, hi⟩ k) : EReal) else 0) * aW1 m c (ix2 k h)

/-- The first point computes the table from its blocks. -/
theorem table_write (t : Fin cfg0.N) (x : Fin 128) (h : Fin 256) :
    (k0_pay2 (F := Ideal) (iblk m c 3 t) (iblk m c 8 t) : Vec Ideal S128x256 .f32) (ix2 x h) = table m c x h := by
  pointwise [k0_pay2]
  unfold table
  refine Finset.sum_congr rfl fun k _ => ?_
  rw [block_emb, block_w1]

/-- Every point finds the table in the scratch. -/
theorem scratch_eq (t : Fin cfg0.N) (x : Fin 128) (h : Fin 256) :
    ((outsAt0 m c t.val t.isLt).2 : Vec Ideal S128x256 .f32) (ix2 x h) = table m c x h := by
  have e := Pipeline.eq_of_write_hold (fun n hn => ((outsAt0 m c n hn).2 : Vec Ideal S128x256 .f32)) 16
    (fun t => k0_pay2 (F := Ideal) (iblk m c 3 t) (iblk m c 8 t))
    (fun t h0 => by rw [outsAt0_A m c t h0]; frame_out)
    (fun t h0 => by rw [outsAt0_B m c t h0]; rfl) t
  rw [show ((outsAt0 m c t.val t.isLt).2 : Vec Ideal S128x256 .f32) = _ from e]
  exact table_write m c _ x h

/-- The embedding row, position and energy of atom `n`. -/
def atomEnergy (hz : ∀ n : Fin 16384, (aZ m c (ix1 n)).toNat < 100) (n : Fin 16384) : EReal :=
  Model.atom (fun k => aEmb m c (ix2 ⟨(aZ m c (ix1 n)).toNat, hz n⟩ k)) (fun d => aPos m c (ix2 n d))
    (fun k h => aW1 m c (ix2 k h)) (fun d h => aWp m c (ix2 d h)) (fun i h => aWv m c (ix2 i h))
    (fun h k => aWo1 m c (ix2 h k)) (fun k => aWo2 m c (ix2 k 0))

/-- One row of the body's arithmetic, for any operands: the energy of the row's hidden features. -/
theorem body_row (z : Vec Ideal S1024x1 .i32) (p : Vec Ideal S1024x8 .f32) (sc : Vec Ideal S128x256 .f32)
    (wp : Vec Ideal S8x256 .f32) (wv : Vec Ideal S256x256 .f32) (wo1 : Vec Ideal S256x128 .f32)
    (wo2 : Vec Ideal S128x1 .f32) (r : Fin 1024) :
    (k0_pay4 (F := Ideal) z p sc wp wv wo1 wo2 : Vec Ideal S1024x1 .f32) (ix2 r 0)
      = Model.energy
          (fun h => Model.silu ((∑ k : Fin 128, (FloatOps.sitofp (F := Ideal) .f32 (BitVec.setWidth 32 (IntOp.cmpi .eq
            (z (ix2 r 0)) (BitVec.ofNat 32 k.val))) : EReal) * sc (ix2 k h)) + ∑ d : Fin 8, (p (ix2 r d) : EReal) * wp (ix2 d h)))
          (∑ d : Fin 8, (p (ix2 r d) : EReal) * p (ix2 r d)) (fun i h => wv (ix2 i h)) (fun h k => wo1 (ix2 h k))
          (fun k => wo2 (ix2 k 0)) := by
  pointwise [k0_pay4]
  unfold Model.energy Model.silu
  rfl

/-- The energies one point computes from its blocks and the table. -/
theorem energy_eq (hz : ∀ n : Fin 16384, (aZ m c (ix1 n)).toNat < 100) (t : Fin cfg0.N)
    (z : Vec Ideal S1024x1 .i32) (p : Vec Ideal S1024x8 .f32) (sc : Vec Ideal S128x256 .f32)
    (wp : Vec Ideal S8x256 .f32) (wv : Vec Ideal S256x256 .f32) (wo1 : Vec Ideal S256x128 .f32)
    (wo2 : Vec Ideal S128x1 .f32)
    (ez : ∀ r, z (ix2 r 0) = aZ m c (ix1 ⟨t.val * 1024 + r.val, atom_lt t r⟩))
    (ep : ∀ r d, p (ix2 r d)
      = if hd : d.val < 3 then (aPos m c (ix2 ⟨t.val * 1024 + r.val, atom_lt t r⟩ ⟨d.val, hd⟩) : EReal) else 0)
    (es : ∀ x h, sc (ix2 x h) = table m c x h)
    (ewp : ∀ d h, wp (ix2 d h) = if hd : d.val < 3 then (aWp m c (ix2 ⟨d.val, hd⟩ h) : EReal) else 0)
    (ewv : ∀ y, wv y = aWv m c y) (ewo1 : ∀ y, wo1 y = aWo1 m c y) (ewo2 : ∀ y, wo2 y = aWo2 m c y) (r : Fin 1024) :
    (k0_pay4 (F := Ideal) z p sc wp wv wo1 wo2 : Vec Ideal S1024x1 .f32) (ix2 r 0)
      = atomEnergy m c hz ⟨t.val * 1024 + r.val, atom_lt t r⟩ := by
  have hhid : ∀ h : Fin 256,
      (∑ k : Fin 128, (FloatOps.sitofp (F := Ideal) .f32 (BitVec.setWidth 32 (IntOp.cmpi .eq
          (z (ix2 r 0)) (BitVec.ofNat 32 k.val))) : EReal) * sc (ix2 k h))
        + ∑ d : Fin 8, (p (ix2 r d) : EReal) * wp (ix2 d h)
      = (∑ k, (aEmb m c (ix2 ⟨(aZ m c (ix1 ⟨t.val * 1024 + r.val, atom_lt t r⟩)).toNat, hz _⟩ k) : EReal) * aW1 m c (ix2 k h))
        + ∑ d : Fin 3, (aPos m c (ix2 ⟨t.val * 1024 + r.val, atom_lt t r⟩ d) : EReal) * aWp m c (ix2 d h) := by
    intro h
    have hb := hz ⟨t.val * 1024 + r.val, atom_lt t r⟩
    congr 1
    · simp only [Model.sitofp_eq, ez, es]
      rw [Sums.sum_indicator _ (⟨(aZ m c (ix1 ⟨t.val * 1024 + r.val, atom_lt t r⟩)).toNat, by omega⟩ : Fin 128)
        (fun j => (word_eq_iff _ j).trans ⟨fun e => Fin.ext e.symm, fun e => (congrArg Fin.val e).symm⟩)]
      unfold table
      refine Finset.sum_congr rfl fun k _ => ?_
      rw [dif_pos hb]
    · rw [sum_eight _ (fun d hd => by rw [ep, dif_neg hd, zero_mul])]
      refine Finset.sum_congr rfl fun d _ => ?_
      rw [ep, ewp, dif_pos d.isLt, dif_pos d.isLt]
  have hq : (∑ d : Fin 8, (p (ix2 r d) : EReal) * p (ix2 r d))
      = ∑ d : Fin 3, (aPos m c (ix2 ⟨t.val * 1024 + r.val, atom_lt t r⟩ d) : EReal)
          * aPos m c (ix2 ⟨t.val * 1024 + r.val, atom_lt t r⟩ d) := by
    rw [sum_eight _ (fun d hd => by rw [ep, dif_neg hd, zero_mul])]
    refine Finset.sum_congr rfl fun d _ => ?_
    rw [ep, dif_pos d.isLt]
  rw [body_row, funext fun h => congrArg Model.silu (hhid h), hq]
  simp only [ewv, ewo1, ewo2]
  rfl

/-- What one point adds to a graph's sum. -/
def pointSum (hz : ∀ n : Fin 16384, (aZ m c (ix1 n)).toNat < 100) (t : Fin cfg0.N) (g : Fin 256) : EReal :=
  ∑ r : Fin 1024, (if aBatch m c (ix1 ⟨t.val * 1024 + r.val, atom_lt t r⟩) = BitVec.ofNat 32 g.val then (1 : EReal) else 0)
    * atomEnergy m c hz ⟨t.val * 1024 + r.val, atom_lt t r⟩

/-- One entry of the body's segment sum, for any operands. -/
theorem body_sum (en : Vec Ideal S1024x1 .f32) (b : Vec Ideal S1x1x1024 .i32) (old : Vec Ideal S256x1 .f32)
    (g : Fin 256) :
    (k0_pay1 (F := Ideal) en b old : Vec Ideal S256x1 .f32) (ix2 g 0) = (old (ix2 g 0) : EReal)
      + ∑ r : Fin 1024, (FloatOps.sitofp (F := Ideal) .f32 (BitVec.setWidth 32 (IntOp.cmpi .eq (BitVec.ofNat 32 g.val)
          (b (ix3 0 0 r)))) : EReal) * en (ix2 r 0) := by
  pointwise [k0_pay1]

/-- A point adds its sum to what the output held. -/
theorem add_sum (hz : ∀ n : Fin 16384, (aZ m c (ix1 n)).toNat < 100) (t : Fin cfg0.N)
    (en : Vec Ideal S1024x1 .f32) (b : Vec Ideal S1x1x1024 .i32) (old : Vec Ideal S256x1 .f32)
    (ee : ∀ r, en (ix2 r 0) = atomEnergy m c hz ⟨t.val * 1024 + r.val, atom_lt t r⟩)
    (eb : ∀ r, b (ix3 0 0 r) = aBatch m c (ix1 ⟨t.val * 1024 + r.val, atom_lt t r⟩)) (g : Fin 256) :
    (k0_pay1 (F := Ideal) en b old : Vec Ideal S256x1 .f32) (ix2 g 0) = (old (ix2 g 0) : EReal) + pointSum m c hz t g := by
  rw [body_sum]
  unfold pointSum
  refine congrArg (old (ix2 g 0) + ·) (Finset.sum_congr rfl fun r _ => ?_)
  rw [ee, Model.sitofp_eq, eb]
  refine congrArg (· * _) (if_congr ⟨Eq.symm, Eq.symm⟩ rfl rfl)

/-- A point's blocks and the table give the point's sum, added to what the output held. -/
theorem point_eq (hz : ∀ n : Fin 16384, (aZ m c (ix1 n)).toNat < 100) (t : Fin cfg0.N)
    (sc : Vec Ideal S128x256 .f32) (es : ∀ x h, sc (ix2 x h) = table m c x h) (old : Vec Ideal S256x1 .f32)
    (g : Fin 256) :
    (k0_pay1 (F := Ideal) (k0_pay4 (F := Ideal) (iblk m c 0 t) (iblk m c 1 t) sc (iblk m c 4 t) (iblk m c 5 t)
      (iblk m c 6 t) (iblk m c 7 t)) (iblk m c 2 t) old : Vec Ideal S256x1 .f32) (ix2 g 0)
      = (old (ix2 g 0) : EReal) + pointSum m c hz t g :=
  add_sum m c hz t _ _ old
    (energy_eq m c hz t _ _ sc _ _ _ _ (block_z m c t) (block_pos m c t) es (block_wp m c t) (block_wv m c t)
      (block_wo1 m c t) (block_wo2 m c t))
    (block_batch m c t) g

/-- The kernel's result at graph `g`. -/
theorem result_eq (hz : ∀ n : Fin 16384, (aZ m c (ix1 n)).toNat < 100) (g : Fin 256) :
    (Value.G9 m c : Vec Ideal S256x1 .f32) (ix2 g 0)
      = Model.total (fun n => aBatch m c (ix1 n)) (atomEnergy m c hz) g := by
  have hlast : 15 < cfg0.N := lt_of_lt_of_eq (by decide) N_0.symm
  have e := Pipeline.eq_sum_fin_of_reset_step_apply_last (N := cfg0.N)
    (fun n hn (g : Fin 256) => (((outsAt0 m c n hn).1 : Vec Ideal S256x1 .f32) (ix2 g 0) : EReal)) 16 (fun _ => 0)
    (pointSum m c hz)
    (fun t h0 g => by
      rw [outsAt0_A m c t h0]
      frame_out
      refine (point_eq m c hz t _ (table_write m c t) _ g).trans ?_
      congr 1
      pointwise [k0_pay3])
    (fun t h0 g => by
      have es := scratch_eq m c ⟨t.val - 1, Nat.lt_of_le_of_lt (Nat.sub_le _ _) t.isLt⟩
      rw [outsAt0_B m c t h0]
      frame_out
      rw [read_unread_whole]
      exact point_eq m c hz t _ es _ g)
    (le_of_eq N_0) ⟨15, hlast⟩ (show 15 + 1 = cfg0.N from N_0.symm) g
  rw [Value.G9_last, ← Value.outsAt0_sweep m c 15 hlast]
  refine e.trans ?_
  rw [zero_add]
  unfold pointSum Model.total
  exact Fin.sum_mul_add_fin cfg0.N 1024 (fun n : Fin 16384 => (if aBatch m c (ix1 n) = BitVec.ofNat 32 g.val
    then (1 : EReal) else 0) * atomEnergy m c hz n) (by rw [show cfg0.N = 16 from N_0])

end Cert.KernelValue
-- ==== Proof.RefValue.lean ====
/- What the reference returns: for each graph, the sum over the graph's atoms of the atom's energy, where the atomic numbers
   are rows of the embedding table and the positions are real. -/
module

public import proofs.«01_k».proof.Proof.Gen.ReferenceIdeal.Read
public import proofs.«01_k».proof.Proof.Model
public import proofs.«01_k».proof.Proof.Sums
public import Idealize.ShloMosaic.Lib.Pointwise
public import Idealize.ShloMosaic.Lib.Routing.Ops
public import Idealize.ShloMosaic.Lib.Routing.OpsPair

@[expose] public section

set_option maxRecDepth 16384

noncomputable section

namespace Cert.RefValue

open Cert.ReferenceIdeal Cert.ReferenceIdeal.Gen Cert.ReferenceIdeal.Read Idealize.ShloMosaic Idealize.ShloMosaic.TcCoe Idealize.SL.Sem
open scoped BigOperators

variable (z : Vec Ideal S16384 .i32) (pos : Vec Ideal S16384x3 .f32) (batch : Vec Ideal S16384 .i32)
  (emb : Vec Ideal S100x256 .f32) (wp : Vec Ideal S3x256 .f32) (w1 wv : Vec Ideal S256x256 .f32)
  (wo1 : Vec Ideal S256x128 .f32) (wo2 : Vec Ideal S128x1 .f32)

/-- An atomic number below one hundred is not wrapped. -/
theorem word_index (n : Fin 16384) (h : (z (ix1 n)).toNat < 100) :
    (val_main_v5 (F := Ideal) z : Vec Ideal S16384x1 .i32) (ix2 n 0) = z (ix1 n) := by
  pointwise [val_main_v5, val_main_v4, val_main_v3, val_main_v2, val_main_v1, val_main_v0, val_main_c, val_main_c_0]
  exact Routing.wrap_of_lt _ _ (by omega)

/-- The gathered row of an atom is the table's row at its atomic number. -/
theorem row_eq (n : Fin 16384) (h : (z (ix1 n)).toNat < 100) (k : Fin 256) :
    (val_main_v6 (F := Ideal) z emb : Vec Ideal S16384x256 .f32) (ix2 n k) = emb (ix2 ⟨(z (ix1 n)).toNat, h⟩ k) := by
  unfold val_main_v6
  rw [ix2_eq_valueIdx, ix2_eq_valueIdx]
  refine Routing.gather_row gather_S100x256_S16384x1_S16384x256_1_0_n_n_0_1_1256 rfl rfl rfl rfl rfl emb _ n k
    ⟨(z (ix1 n)).toNat, h⟩ ?_ (by decide)
  rw [← ix2_eq_valueIdx, word_index z n h]
  simp

/-- The first layer before its activation. -/
theorem layer_eq (n : Fin 16384) (h : Fin 256) :
    (val_main_v9 (F := Ideal) z pos emb wp w1 : Vec Ideal S16384x256 .f32) (ix2 n h)
      = (∑ k : Fin 256, ((val_main_v6 (F := Ideal) z emb : Vec Ideal S16384x256 .f32) (ix2 n k) : EReal) * w1 (ix2 k h))
        + ∑ d : Fin 3, (pos (ix2 n d) : EReal) * wp (ix2 d h) := by
  pointwise [val_main_v9, val_main_v8, val_main_v7]

/-- The activation is a value times its logistic. -/
theorem act_eq (n : Fin 16384) (h : Fin 256) :
    (val_main_v10 (F := Ideal) z pos emb wp w1 : Vec Ideal S16384x256 .f32) (ix2 n h)
      = Model.silu ((val_main_v9 (F := Ideal) z pos emb wp w1 : Vec Ideal S16384x256 .f32) (ix2 n h)) := by
  pointwise [val_main_v10, val_main_call0_v5, val_main_call0_v4, val_main_call0_v3, val_main_call0_v2, val_main_call0_v1,
    val_main_call0_v0, val_main_call0_cst, val_main_call0_cst_0]
  unfold Model.silu Ideal.logistic
  rfl

/-- The hidden features of an atom. -/
theorem hidden_eq (n : Fin 16384) (hn : (z (ix1 n)).toNat < 100) (h : Fin 256) :
    (val_main_v10 (F := Ideal) z pos emb wp w1 : Vec Ideal S16384x256 .f32) (ix2 n h)
      = Model.hidden (fun k => emb (ix2 ⟨(z (ix1 n)).toNat, hn⟩ k)) (fun d => pos (ix2 n d)) (fun k h => w1 (ix2 k h))
          (fun d h => wp (ix2 d h)) h := by
  rw [act_eq, layer_eq]
  simp only [row_eq z emb n hn]
  rfl

/-- The vector channel of an atom along one axis. -/
theorem channel_eq (n : Fin 16384) (d : Fin 3) (h : Fin 256) :
    (val_main_v16 (F := Ideal) z pos emb wp w1 wv : Vec Ideal S16384x3x256 .f32) (ix3 n d h)
      = ∑ i : Fin 256, (pos (ix2 n d) : EReal)
          * (val_main_v10 (F := Ideal) z pos emb wp w1 : Vec Ideal S16384x256 .f32) (ix2 n i) * wv (ix2 i h) := by
  pointwise [val_main_v16, val_main_v15, val_main_v14, val_main_v13, val_main_v12, val_main_v11]

/-- The hidden features with the squared length of the vector channel added. -/
theorem joined_eq (n : Fin 16384) (h : Fin 256) :
    (val_main_v19 (F := Ideal) z pos emb wp w1 wv : Vec Ideal S16384x256 .f32) (ix2 n h)
      = ((val_main_v10 (F := Ideal) z pos emb wp w1 : Vec Ideal S16384x256 .f32) (ix2 n h) : EReal)
        + ∑ d : Fin 3, ((val_main_v16 (F := Ideal) z pos emb wp w1 wv : Vec Ideal S16384x3x256 .f32) (ix3 n d h) : EReal)
            * (val_main_v16 (F := Ideal) z pos emb wp w1 wv : Vec Ideal S16384x3x256 .f32) (ix3 n d h) := by
  pointwise [val_main_v19, val_main_v18, val_main_v17, val_main_cst]

/-- The output layers of an atom. -/
theorem output_eq (n : Fin 16384) :
    (val_main_v24 (F := Ideal) z pos emb wp w1 wv wo1 wo2 : Vec Ideal S16384x1 .f32) (ix2 n 0)
      = ∑ k : Fin 128, Model.silu (∑ h : Fin 256,
          ((val_main_v19 (F := Ideal) z pos emb wp w1 wv : Vec Ideal S16384x256 .f32) (ix2 n h) : EReal) * wo1 (ix2 h k))
            * (wo2 (ix2 k 0) : EReal) := by
  pointwise [val_main_v24, val_main_v23, val_main_cst_1, val_main_v22, val_main_v21, val_main_call1_v5, val_main_call1_v4,
    val_main_call1_v3, val_main_call1_v2, val_main_call1_v1, val_main_call1_v0, val_main_call1_cst, val_main_call1_cst_0,
    val_main_v20]
  unfold Model.silu Ideal.logistic
  rfl

/-- The energy of an atom. The positions are real: the squared length of the vector channel is then the squared distance
    times the square of the channel without the position. -/
theorem energy_eq (hp : ∀ n d, (pos (ix2 n d) : EReal) ≠ ⊥ ∧ (pos (ix2 n d) : EReal) ≠ ⊤) (n : Fin 16384)
    (hn : (z (ix1 n)).toNat < 100) :
    (val_main_v24 (F := Ideal) z pos emb wp w1 wv wo1 wo2 : Vec Ideal S16384x1 .f32) (ix2 n 0)
      = Model.atom (fun k => emb (ix2 ⟨(z (ix1 n)).toNat, hn⟩ k)) (fun d => pos (ix2 n d)) (fun k h => w1 (ix2 k h))
          (fun d h => wp (ix2 d h)) (fun i h => wv (ix2 i h)) (fun h k => wo1 (ix2 h k)) (fun k => wo2 (ix2 k 0)) := by
  rw [output_eq]
  unfold Model.atom Model.energy
  refine Finset.sum_congr rfl fun k _ => ?_
  refine congrArg (fun x => Model.silu x * (wo2 (ix2 k 0) : EReal)) (Finset.sum_congr rfl fun h _ => ?_)
  rw [joined_eq]
  simp only [channel_eq, hidden_eq z pos emb wp w1 n hn]
  rw [Sums.norm_sq (fun d => (pos (ix2 n d) : EReal)) (fun d => (hp n d).1) (fun d => (hp n d).2)]

/-- An update lands at a graph exactly where its word, read signed, is the graph's number. -/
theorem lands (idx : IVec S16384x1 32) (n : Fin 16384) (g : Fin 256) :
    scatter_S256x1_S16384x1_S16384x1_1_0_0_1.resultIdx? (ix2 n 0) idx = some (ix2 g 0)
      ↔ (idx (ix2 n 0)).toInt = g.val := by
  rw [Routing.resultIdx?_eq_some]
  have s0 : scatter_S256x1_S16384x1_S16384x1_1_0_0_1.start (ix2 n 0) idx 0 = (idx (ix2 n 0)).toInt := by
    unfold ScatterDims.start
    rw [dif_pos (by decide)]
    congr 2
    funext b
    match b with
    | ⟨0, _⟩ => rfl
    | ⟨1, _⟩ => rfl
  have s1 : scatter_S256x1_S16384x1_S16384x1_1_0_0_1.start (ix2 n 0) idx 1 = 0 := by
    unfold ScatterDims.start
    rw [dif_neg (by decide)]
  have w0 : scatter_S256x1_S16384x1_S16384x1_1_0_0_1.window (ix2 n 0) 0 = 0 := rfl
  have w1 : scatter_S256x1_S16384x1_S16384x1_1_0_0_1.window (ix2 n 0) 1 = 0 := rfl
  constructor
  · intro h
    have h0 := h 0
    rw [s0, w0] at h0
    exact (add_zero _).symm.trans h0
  · intro h a
    match a with
    | ⟨0, _⟩ => exact (congrArg₂ (fun x (y : Nat) => x + (y : Int)) s0 w0).trans ((add_zero _).trans h)
    | ⟨1, _⟩ => exact (congrArg₂ (fun x (y : Nat) => x + (y : Int)) s1 w1).trans (add_zero _)

/-- A word is the word of a graph's number exactly where its signed value is the number. -/
theorem word_graph (b : BitVec 32) (g : Fin 256) : b.toInt = g.val ↔ b = BitVec.ofNat 32 g.val := by
  have hg := g.isLt
  constructor
  · intro h
    rw [← BitVec.toNat_inj, BitVec.toNat_ofNat, Nat.mod_eq_of_lt (by omega)]
    rw [BitVec.toInt_eq_toNat_cond] at h
    have := b.isLt
    split at h <;> omega
  · rintro rfl
    rw [BitVec.toInt_eq_toNat_cond, BitVec.toNat_ofNat, Nat.mod_eq_of_lt (by omega), if_pos (by omega)]

/-- The reference's result at graph `g`. -/
theorem result_eq (hz : ∀ n, (z (ix1 n)).toNat < 100)
    (hp : ∀ n d, (pos (ix2 n d) : EReal) ≠ ⊥ ∧ (pos (ix2 n d) : EReal) ≠ ⊤) (g : Fin 256) :
    (val_main_v29 (F := Ideal) z pos batch emb wp w1 wv wo1 wo2 : Vec Ideal S256x1 .f32) (ix2 g 0)
      = Model.total (fun n => batch (ix1 n)) (fun n => Model.atom (fun k => emb (ix2 ⟨(z (ix1 n)).toNat, hz n⟩ k))
          (fun d => pos (ix2 n d)) (fun k h => w1 (ix2 k h)) (fun d h => wp (ix2 d h)) (fun i h => wv (ix2 i h))
          (fun h k => wo1 (ix2 h k)) (fun k => wo2 (ix2 k 0))) g := by
  have hs : (val_main_v27 (F := Ideal) z pos batch emb wp w1 wv wo1 wo2 : Vec Ideal S256x1 .f32) (ix2 g 0)
      = ((val_main_v25 (F := Ideal) : Vec Ideal S256x1 .f32) (ix2 g 0) : EReal)
        + ∑ j ∈ Finset.univ.filter (fun j => scatter_S256x1_S16384x1_S16384x1_1_0_0_1.resultIdx? j
            (val_main_v26 (F := Ideal) batch) = some (ix2 g 0)),
          ((val_main_v24 (F := Ideal) z pos emb wp w1 wv wo1 wo2 : Vec Ideal S16384x1 .f32) j : EReal) := rfl
  have h26 : ∀ n, (val_main_v26 (F := Ideal) batch : Vec Ideal S16384x1 .i32) (ix2 n 0) = batch (ix1 n) := fun n => by
    pointwise [val_main_v26]
  have h25 : ((val_main_v25 (F := Ideal) : Vec Ideal S256x1 .f32) (ix2 g 0) : EReal) = 0 := by
    pointwise [val_main_v25, val_main_cst_2]
  have h28 : ((val_main_v28 (F := Ideal) : Vec Ideal S256x1 .f32) (ix2 g 0) : EReal) = 0 := by
    pointwise [val_main_v28, val_main_cst_3]
  have ha : (val_main_v29 (F := Ideal) z pos batch emb wp w1 wv wo1 wo2 : Vec Ideal S256x1 .f32) (ix2 g 0)
      = ((val_main_v27 (F := Ideal) z pos batch emb wp w1 wv wo1 wo2 : Vec Ideal S256x1 .f32) (ix2 g 0) : EReal)
        + (val_main_v28 (F := Ideal) : Vec Ideal S256x1 .f32) (ix2 g 0) := rfl
  rw [ha, h28, add_zero, hs, h25, zero_add, Finset.sum_filter, sum_idx2]
  unfold Model.total
  refine Finset.sum_congr rfl fun n _ => ?_
  rw [Fin.sum_univ_one, energy_eq z pos emb wp w1 wv wo1 wo2 hp n (hz n)]
  by_cases hb : batch (ix1 n) = BitVec.ofNat 32 g.val
  · rw [if_pos ((lands _ n g).2 (by rw [h26]; exact (word_graph _ g).2 hb)), if_pos hb, one_mul]
  · rw [if_neg (fun hl => hb ((word_graph _ g).1 (by rw [← h26]; exact (lands _ n g).1 hl))), if_neg hb, zero_mul]

end Cert.RefValue
-- ==== Proof.Pre.lean ====
/- What the precondition says: every atomic number is a row of the embedding table, every position is real. -/
module

public import proofs.«01_k».proof.Pre_in_range
public import Idealize.ShloMosaic.Lib.Pointwise
public import Idealize.ShloMosaic.Lib.ReduceAll
public import Idealize.ShloMosaic.Lib.WordCmp
public import Idealize.ShloMosaic.PureOps.Ideal.Laws

@[expose] public section

noncomputable section

namespace Cert.Pre

open Cert.Pre_in_range Idealize.ShloMosaic

/-- The shape relations the precondition's operations state. -/
theorem facts : Cert.Pre_in_range.Facts where
  bcast_S_S16384 := by decide
  reducesTo_S16384_S_d0 := by decide
  h_S_ := by decide
  bcast_S_S16384x3 := by decide
  reducesTo_S16384x3_S_d0_1 := by decide

attribute [local instance] facts

/-- The single-precision word of positive infinity denotes the top element. -/
theorem infinity_word : (FloatOps.ofBits (F := Ideal) .f32 0x7F800000#32 : EReal) = ⊤ := by
  show Ideal.ofBits .f32 0x7F800000#32 = ⊤
  simp [Ideal.ofBits, Ideal.ieee]

/-- An extended real whose absolute value lies below the top element is neither end. -/
theorem real_of_abs (x : EReal) (h : max x (-x) < ⊤) : x ≠ ⊥ ∧ x ≠ ⊤ := by
  constructor <;> rintro rfl <;> simp at h

instance : Subsingleton S_.Idx := ⟨fun a b => funext fun i => i.elim0⟩

variable (z : IVec S16384 32) (pos : FVec Ideal S16384x3 .f32) (batch : IVec S16384 32) (emb : FVec Ideal S100x256 .f32)
  (wp : FVec Ideal S3x256 .f32) (w1 wv : FVec Ideal S256x256 .f32) (wo1 : FVec Ideal S256x128 .f32)
  (wo2 : FVec Ideal S128x1 .f32)

/-- The precondition bounds every atomic number and makes every position real. -/
theorem decode (h : Cert.Pre_in_range.fn (F := Ideal) z pos batch emb wp w1 wv wo1 wo2 = fun _ => 1#1) :
    (∀ n, (z (ix1 n)).toNat < 100) ∧ ∀ n d, (pos (ix2 n d) : EReal) ≠ ⊥ ∧ (pos (ix2 n d) : EReal) ≠ ⊤ := by
  have h0 := congrFun h ix0
  unfold Cert.Pre_in_range.fn at h0
  have hb : ∀ a b : BitVec 1, IntOp.andi a b = 1#1 → a = 1#1 ∧ b = 1#1 := by decide
  obtain ⟨hz, hp⟩ := hb _ _ h0
  constructor
  · intro n
    have e := Host.reduce_andi_all _ _ _ _ _ hz (ix1 n)
    obtain ⟨e0, e1⟩ := hb _ _ e
    have e0' : IntOp.cmpi .sge (z (ix1 n)) 0#32 = 1#1 := e0
    have e1' : IntOp.cmpi .slt (z (ix1 n)) 100#32 = 1#1 := e1
    rw [WordCmp.cmpi_sge_eq, WordCmp.ofBool_decide_eq_one_iff] at e0'
    rw [WordCmp.cmpi_slt_eq, WordCmp.ofBool_decide_eq_one_iff] at e1'
    have k0 : (0#32 : BitVec 32).toInt = 0 := by decide
    have k1 : (100#32 : BitVec 32).toInt = 100 := by decide
    rw [k0] at e0'
    rw [k1] at e1'
    rw [BitVec.toInt_eq_toNat_cond] at e0' e1'
    have := (z (ix1 n)).isLt
    split at e0' <;> split at e1' <;> omega
  · intro n d
    have e := Host.reduce_andi_all _ _ _ _ _ hp (ix2 n d)
    refine real_of_abs _ ?_
    have e' : Ideal.cmp .olt (max (pos (ix2 n d) : EReal) (-(pos (ix2 n d) : EReal))) (FloatOps.ofBits (F := Ideal) .f32 0x7F800000#32 : EReal) = 1#1 := e
    rw [infinity_word] at e'
    exact (WordCmp.ofBool_decide_eq_one_iff _).1 e'

end Cert.Pre
-- ==== Proof.lean ====
/- The certificate: each program runs to the end and leaves its arguments as they were, and on the stated inputs the kernel
   and the reference end with equal results. Both results are the same sum over atoms, graph by graph (KernelValue.lean,
   RefValue.lean); the precondition is read in Pre.lean. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.KernelValue
public import proofs.«01_k».proof.Proof.RefValue
public import proofs.«01_k».proof.Proof.Pre

@[expose] public section

noncomputable section

namespace Cert.Proof

open Idealize.ShloMosaic Idealize.SL.Sem

/-- The reference runs to the end, leaves its arguments as they were, and no signal outstanding. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array and the reference's are equal on inputs that meet the precondition. -/
theorem results_eq (m : (ℓ : Loc Cert.KernelIdeal.nD Cert.KernelIdeal.τ Cert.KernelIdeal.sig) → Buf (Elt Ideal) ℓ)
    (c : Dev Cert.KernelIdeal.nD)
    (hz : ∀ n, (Cert.Blocks.aZ m c (ix1 n)).toNat < 100)
    (hp : ∀ n d, (Cert.Blocks.aPos m c (ix2 n d) : EReal) ≠ ⊥ ∧ (Cert.Blocks.aPos m c (ix2 n d) : EReal) ≠ ⊤) :
    (Cert.ReferenceIdeal.Read.val_main_v29 (F := Ideal) (Cert.Blocks.aZ m c) (Cert.Blocks.aPos m c)
      (Cert.Blocks.aBatch m c) (Cert.Blocks.aEmb m c) (Cert.Blocks.aWp m c) (Cert.Blocks.aW1 m c) (Cert.Blocks.aWv m c)
      (Cert.Blocks.aWo1 m c) (Cert.Blocks.aWo2 m c) : Vec Ideal Cert.KernelIdeal.S256x1 .f32)
      = Cert.KernelIdeal.Value.G9 m c := by
  funext i
  obtain ⟨g, q, rfl⟩ : ∃ (g : Fin 256) (q : Fin 1), i = ix2 g q := ⟨i 0, i 1, eq_ix2 i⟩
  obtain rfl : q = 0 := Subsingleton.elim _ _
  rw [Cert.KernelValue.result_eq m c hz g]
  exact Cert.RefValue.result_eq _ _ _ _ _ _ _ _ _ hz hp g

/-- On inputs that meet the precondition the kernel and the reference end with equal results. -/
theorem algebraic_KernelIdeal_ReferenceIdeal [hPre_in_range : Cert.Pre_in_range.Facts] :
    algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hz, hp⟩ := Cert.Pre.decode _ _ _ _ _ _ _ _ _ (hpre c)
  rw [(h c).1]
  refine Eq.trans ?_ (results_eq m c hz hp)
  obtain ⟨h0, h1, h2, h3, h4, h5, h6, h7, h8⟩ := hagree c
  refine (Cert.ReferenceIdeal.Read.val_main_v29_eq m' c).trans ?_
  rw [h0, h1, h2, h3, h4, h5, h6, h7, h8]

/-- Every claim of the certificate. -/
theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  (trivial : preserves_Kernel_KernelIdeal), algebraic_KernelIdeal_ReferenceIdeal (hPre_in_range := Cert.Pre.facts)⟩

end Cert.Proof

end
